-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_in_range [hPre_logits_in_range : Cert.Pre_logits_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_logits_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_in_range [hPre_logits_in_range : Cert.Pre_logits_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_in_range [hKernelIdeal : Cert.KernelIdeal.Facts] [hPre_logits_in_range : Cert.Pre_logits_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_in_range [hReferenceIdeal : Cert.ReferenceIdeal.Facts] [hPre_logits_in_range : Cert.Pre_logits_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_logits_in_range [hKernelIdeal : Cert.KernelIdeal.Facts] [hReferenceIdeal : Cert.ReferenceIdeal.Facts] [hPre_logits_in_range : Cert.Pre_logits_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_logits_in_range : Cert.Pre_logits_in_range.Facts),
    quiescent_Kernel (hKernel := hKernel)
    ∧ quiescent_KernelIdeal (hKernelIdeal := hKernelIdeal)
    ∧ quiescent_KernelIdeal_pre_logits_in_range (hKernelIdeal := hKernelIdeal) (hPre_logits_in_range := hPre_logits_in_range)
    ∧ quiescent_ReferenceIdeal (hReferenceIdeal := hReferenceIdeal)
    ∧ quiescent_ReferenceIdeal_pre_logits_in_range (hReferenceIdeal := hReferenceIdeal) (hPre_logits_in_range := hPre_logits_in_range)
    ∧ preserves_Kernel_KernelIdeal
    ∧ algebraic_KernelIdeal_ReferenceIdeal_pre_logits_in_range (hKernelIdeal := hKernelIdeal) (hReferenceIdeal := hReferenceIdeal) (hPre_logits_in_range := hPre_logits_in_range)
-- ==== Pre_logits_in_range.lean ====
abbrev S100000x128 : Shape := ⟨2, ![100000, 128]⟩
abbrev S128x512 : Shape := ⟨2, ![128, 512]⟩
abbrev S_ : Shape := ⟨0, ![]⟩
abbrev S128 : Shape := ⟨1, ![128]⟩
abbrev S1x128 : Shape := ⟨2, ![1, 128]⟩

class Facts : Prop where
  bcast_S_S100000x128 : S_.BroadcastsInDim S100000x128 (![] : Fin 0 → Fin S100000x128.rank)
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)

variable [Facts]

def fn {F : FTy → Type} [FloatOps F] (main_arg0 : FVec F S100000x128 .f32) (main_arg1 : IVec S128x512 32) (main_arg2 : IVec S_ 32) (main_arg3 : IVec S_ 32) : IVec S100000x128 1 :=
  let main_cst : FVec F S_ .f32 := constant S_ .f32 0x42AE0000#32
  let main_v0 : FVec F S100000x128 .f32 := broadcastInDim S100000x128 ![] bcast_S_S100000x128 main_cst
  let main_v1 : IVec S100000x128 1 := cmpf .ole main_arg0 main_v0
  let main_cst_0 : FVec F S_ .f32 := constant S_ .f32 0xFF800000#32
  let main_v2 : FVec F S128 .f32 := (fun x v => Host.reduce FloatOps.maximumf x v reducesTo_S100000x128_S128_d0 h_S_) main_arg0 main_cst_0
  let main_v3 : FVec F S1x128 .f32 := broadcastInDim S1x128 ![1] bcast_S128_S1x128_1 main_v2
  let main_cst_1 : FVec F S_ .f32 := constant S_ .f32 0xFF800000#32
  let main_v4 : FVec F S1x128 .f32 := broadcastInDim S1x128 ![] bcast_S_S1x128 main_cst_1
  let main_v5 : IVec S1x128 1 := cmpf .ogt main_v3 main_v4
  let main_v6 : IVec S100000x128 1 := broadcastInDim S100000x128 ![0, 1] bcast_S1x128_S100000x128_0_1 main_v5
  let main_v7 : IVec S100000x128 1 := andi main_v1 main_v6
  main_v7
-- ==== Kernel.lean ====
abbrev S100000x128 : Shape := ⟨2, ![100000, 128]⟩
abbrev S128x512 : Shape := ⟨2, ![128, 512]⟩
abbrev S_ : Shape := ⟨0, ![]⟩
abbrev S10000x128 : Shape := ⟨2, ![10000, 128]⟩
abbrev S10x10000x128 : Shape := ⟨3, ![10, 10000, 128]⟩
abbrev S8x128 : Shape := ⟨2, ![8, 128]⟩
abbrev S1x10000x128 : Shape := ⟨3, ![1, 10000, 128]⟩
abbrev S8x10000 : Shape := ⟨2, ![8, 10000]⟩
abbrev S1x128 : Shape := ⟨2, ![1, 128]⟩
abbrev S128x100000 : Shape := ⟨2, ![128, 100000]⟩

abbrev nBuf : Space → Nat
  | .hbm => 6
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x512, .i32⟩
  | .hbm, ⟨2, _⟩ => ⟨S_, .i32⟩
  | .hbm, ⟨3, _⟩ => ⟨S_, .i32⟩
  | .hbm, ⟨4, _⟩ => ⟨S100000x128, .f32⟩
  | .hbm, ⟨5, _⟩ => ⟨S128x100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10x10000x128, .bf16⟩
  | .local _ .vmem, ⟨5, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v14 : Index := Scalar.indexCast arg1
  let c0_5 : Index := 0#32
  let c0_6 : Index := 0#32
  ![v14.toNat, 0, 0]
def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v9 : Index := Scalar.indexCast arg1
  let c0_3 : Index := 0#32
  let c0_4 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S100000x128 : Shape := ⟨2, ![100000, 128]⟩
abbrev S128x512 : Shape := ⟨2, ![128, 512]⟩
abbrev S_ : Shape := ⟨0, ![]⟩
abbrev S128x100000 : Shape := ⟨2, ![128, 100000]⟩
abbrev S128 : Shape := ⟨1, ![128]⟩
abbrev S128x1 : Shape := ⟨2, ![128, 1]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x512, .i32⟩
  | .hbm, ⟨2, _⟩ => ⟨S_, .i32⟩
  | .hbm, ⟨3, _⟩ => ⟨S_, .i32⟩
  | .hbm, ⟨4, _⟩ => ⟨S128x100000, .f32⟩
  | .hbm, ⟨5, _⟩ => ⟨S_, .f32⟩
  | .hbm, ⟨6, _⟩ => ⟨S128x100000, .f32⟩
  | .hbm, ⟨7, _⟩ => ⟨S128x100000, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S128x100000, .f32⟩
  | .hbm, ⟨15, _⟩ => ⟨S128x100000, .f32⟩
  | .hbm, ⟨16, _⟩ => ⟨S128x100000, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x100000, .f32⟩
  | .hbm, ⟨21, _⟩ => ⟨S128x100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Body.lean ====
/- What one grid point of the softmax kernel does to the buffers it is handed. The body has three cases: the first point
   of phase 0 (the sums are zeroed first), the other points of phase 0, and the points of phase 1. For each there is a
   theorem that the body runs and leaves the named contents. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Soft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The point belongs to phase 0. -/
abbrev inPhase0 (i : grid0.Coords) : Prop := k0_cond1 i = 1#1
/-- The point handles the first chunk. -/
abbrev onChunk0 (i : grid0.Coords) : Prop :=
  (Scalar.cmpi .ne (Scalar.extui (Scalar.cmpi .eq (BitVec.ofNat 32 (i 1).val) 0#32)) 0#32) = 1#1
/-- The point belongs to phase 1. -/
abbrev inPhase1 (i : grid0.Coords) : Prop := k0_cond3 i = 1#1

/-- The store of exponentials `u` with the chunk of point `i` replaced by that of the input block `x`. -/
abbrev keepChunk (i : grid0.Coords) (x : Vec F S10000x128 .f32) (u : Vec F S10x10000x128 .bf16) : Vec F S10x10000x128 .bf16 :=
  VecWindow.put u (k0_off1 i) S1x10000x128.size (k0_pay3 x)

/-- The block written in phase 1: the kept chunk of point `i` times the reciprocal of the first row of the sums. -/
abbrev scaled (i : grid0.Coords) (h : inPhase1 i) (u : Vec F S10x10000x128 .bf16) (s : Vec F S8x128 .f32) : Vec F S10000x128 .f32 :=
  k0_pay5 (VecWindow.window s ![0, 0] S1x128.size inb_S8x128_S1x128_0_0)
    (VecWindow.window u (k0_off2 i) S1x10000x128.size (k0_off2_inb i h))

section Runs

variable (c : Dev nD) (i : grid0.Coords)
  (arg2 : Memref sig .tc .vmem S10000x128 .f32) (harg2 : arg2.IsWhole) (arg3 : Memref sig .tc .vmem S10000x128 .f32) (harg3 : arg3.IsWhole)
  (arg4 : Memref sig .tc .vmem S10x10000x128 .bf16) (harg4 : arg4.IsWhole) (arg5 : Memref sig .tc .vmem S8x128 .f32) (harg5 : arg5.IsWhole)
  (x : Vec F S10000x128 .f32) (y : Vec F S10000x128 .f32) (u : Vec F S10x10000x128 .bf16)

/-- At the first point the body keeps the chunk's exponentials and starts the sums, from zero, with their column sums;
    what the sums' buffer held before is of no account. -/
theorem run_first (s : Vec F S8x128 .f32) (hc0 : inPhase0 i) (hc1 : onChunk0 i) (hc2 : ¬inPhase1 i) (E : Set ℕ) (K : PUnit → sProp 𝕄) :
    iprop(owns (c : Thread nD τ) arg2 fullShare x ∗ owns (c : Thread nD τ) arg3 fullShare y
        ∗ owns (c : Thread nD τ) arg4 fullShare u ∗ owns (c : Thread nD τ) arg5 fullShare s
        ∗ (iprop(owns (c : Thread nD τ) arg2 fullShare x ∗ owns (c : Thread nD τ) arg3 fullShare y
            ∗ owns (c : Thread nD τ) arg4 fullShare (keepChunk i x u) ∗ owns (c : Thread nD τ) arg5 fullShare (k0_pay4 x k0_pay1)) -∗ K ⟨⟩))
      ⊢ wp frame (wpE (defs₀ (F := F)) Variants.none c none) E (cc0__softmax_body i arg2 harg2 arg3 harg3 arg4 harg4 arg5 harg5) K := by
  simp only [cc0__softmax_body_eq_skeleton]; unfold cc0__softmax_body_skel
  unfold owns
  iintro ⟨⟨%f0, %hf0, H0⟩, ⟨%f1, %hf1, H1⟩, ⟨%f2, %hf2, H2⟩, ⟨%f3, %hf3, H3⟩, Hk⟩
  sl_exec (disch := first | sl_exact hc0 | sl_exact hc1 | sl_exact hc2)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; rw [View.read_writes_cons_put _ _ _ _ _ rfl, View.writes_nil, hf2, View.readAt_full, hf0]
  · iexists _; isplitr; swap; · iexact H3
    ipureintro; rw [View.read_writes_full, View.readAt_full, hf0]; exact congrArg (k0_pay4 x) (View.readCov_full _ _ _ _ _)

/-- At a point of phase 0 that handles a later chunk the body keeps the chunk's exponentials and adds their column sums
    to the sums it was handed. -/
theorem run_later (s : Vec F S8x128 .f32) (hc0 : inPhase0 i) (hc1 : ¬onChunk0 i) (hc2 : ¬inPhase1 i) (E : Set ℕ) (K : PUnit → sProp 𝕄) :
    iprop(owns (c : Thread nD τ) arg2 fullShare x ∗ owns (c : Thread nD τ) arg3 fullShare y
        ∗ owns (c : Thread nD τ) arg4 fullShare u ∗ owns (c : Thread nD τ) arg5 fullShare s
        ∗ (iprop(owns (c : Thread nD τ) arg2 fullShare x ∗ owns (c : Thread nD τ) arg3 fullShare y
            ∗ owns (c : Thread nD τ) arg4 fullShare (keepChunk i x u) ∗ owns (c : Thread nD τ) arg5 fullShare (k0_pay4 x s)) -∗ K ⟨⟩))
      ⊢ wp frame (wpE (defs₀ (F := F)) Variants.none c none) E (cc0__softmax_body i arg2 harg2 arg3 harg3 arg4 harg4 arg5 harg5) K := by
  simp only [cc0__softmax_body_eq_skeleton]; unfold cc0__softmax_body_skel
  unfold owns
  iintro ⟨⟨%f0, %hf0, H0⟩, ⟨%f1, %hf1, H1⟩, ⟨%f2, %hf2, H2⟩, ⟨%f3, %hf3, H3⟩, Hk⟩
  sl_exec (disch := first | sl_exact hc0 | sl_exact hc1 | sl_exact hc2)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; rw [View.read_writes_cons_put _ _ _ _ _ rfl, View.writes_nil, hf2, View.readAt_full, hf0]
  · iexists _; isplitr; swap; · iexact H3
    ipureintro; rw [View.read_writes_full, View.readAt_full, hf0, View.readAt_full, hf3]

/-- At a point of phase 1 the body leaves the kept exponentials and the sums as they were and writes the scaled chunk. -/
theorem run_scale (s : Vec F S8x128 .f32) (hc0 : ¬inPhase0 i) (hc2 : inPhase1 i) (E : Set ℕ) (K : PUnit → sProp 𝕄) :
    iprop(owns (c : Thread nD τ) arg2 fullShare x ∗ owns (c : Thread nD τ) arg3 fullShare y
        ∗ owns (c : Thread nD τ) arg4 fullShare u ∗ owns (c : Thread nD τ) arg5 fullShare s
        ∗ (iprop(owns (c : Thread nD τ) arg2 fullShare x ∗ owns (c : Thread nD τ) arg3 fullShare (scaled i hc2 u s)
            ∗ owns (c : Thread nD τ) arg4 fullShare u ∗ owns (c : Thread nD τ) arg5 fullShare s) -∗ K ⟨⟩))
      ⊢ wp frame (wpE (defs₀ (F := F)) Variants.none c none) E (cc0__softmax_body i arg2 harg2 arg3 harg3 arg4 harg4 arg5 harg5) K := by
  simp only [cc0__softmax_body_eq_skeleton]; unfold cc0__softmax_body_skel
  unfold owns
  iintro ⟨⟨%f0, %hf0, H0⟩, ⟨%f1, %hf1, H1⟩, ⟨%f2, %hf2, H2⟩, ⟨%f3, %hf3, H3⟩, Hk⟩
  sl_exec (disch := first | sl_exact hc0 | sl_exact hc2)
  sl_step
  iapply Hk
  isplitl [H0]
  · iexists _; isplitr; swap; · iexact H0
    ipureintro; exact hf0
  isplitl [H1]
  · iexists _; isplitr; swap; · iexact H1
    ipureintro; rw [View.read_writes_full, View.readAt_unit _ _ _ rfl, View.readAt_unit _ _ _ rfl, hf2, hf3]
  isplitl [H2]
  · iexists _; isplitr; swap; · iexact H2
    ipureintro; exact hf2
  · iexists _; isplitr; swap; · iexact H3
    ipureintro; exact hf3

end Runs

end Cert.KernelIdeal.Soft

end
-- ==== Proof.Region.lean ====
/- The kernel's run over the whole grid: what the two scratch buffers hold before each point (the invariant), what the
   output block holds after each point of phase 1, and the run of the program that follows. -/
module

public import proofs.«01_k».proof.Proof.Body

@[expose] public section

set_option maxRecDepth 16384

noncomputable section

namespace Cert.KernelIdeal.Soft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

/-! ## The grid's points -/

/-- There are twenty points. -/
theorem lt20 (t : Fin cfg0.N) : t.val < 20 := Nat.lt_of_lt_of_eq t.isLt N_0

/-- A point's first coordinate is its phase. -/
theorem phase_val (t : Fin cfg0.N) : (grid0.coords t 0).val = t.val / 10 % 2 := Pipeline.Grid.coords_val t 0 (by decide) rfl
/-- A point's second coordinate is its chunk. -/
theorem chunk_val (t : Fin cfg0.N) : (grid0.coords t 1).val = t.val / 1 % 10 := Pipeline.Grid.coords_val t 1 (by decide) rfl

/-- Phase 0 is the first ten points. -/
theorem inPhase0_iff (t : Fin cfg0.N) : inPhase0 (grid0.coords t) ↔ t.val < 10 := by
  have ht := lt20 t
  have e0 := phase_val t
  simp only [inPhase0, k0_cond1, e0]
  word_cmp

/-- The first chunk is handled at points 0 and 10. -/
theorem onChunk0_iff (t : Fin cfg0.N) : onChunk0 (grid0.coords t) ↔ t.val % 10 = 0 := by
  have ht := lt20 t
  have e1 := chunk_val t
  simp only [onChunk0, e1]
  word_cmp

/-- Phase 1 is the last ten points. -/
theorem inPhase1_iff (t : Fin cfg0.N) : inPhase1 (grid0.coords t) ↔ 10 ≤ t.val := by
  have ht := lt20 t
  have e0 := phase_val t
  simp only [inPhase1, k0_cond3, e0]
  word_cmp

/-- Where the store keeps chunk `k`. -/
abbrev slotAt (k : ℕ) : Fin 3 → ℕ := ![k, 0, 0]

/-- A slot below ten lies inside the store. -/
theorem slotAt_inb {k : ℕ} (hk : k < 10) : ∀ a, slotAt k a + S1x10000x128.size a ≤ S10x10000x128.size a := by
  intro a
  fin_cases a
  · show k + 1 ≤ 10; omega
  · show 0 + 10000 ≤ 10000; omega
  · show 0 + 128 ≤ 128; omega

/-- Phase 0 writes its chunk at the chunk's place, -/
theorem off1_eq (t : Fin cfg0.N) : k0_off1 (grid0.coords t) = slotAt (t.val % 10) := by
  have e1 := chunk_val t
  rw [Nat.div_one] at e1
  have h : k0_off1 (grid0.coords t) = slotAt (grid0.coords t 1).val := by
    have := (grid0.coords t 1).isLt
    have h' : (grid0.coords t 1).val < 10 := this
    funext a
    fin_cases a
    · show (Scalar.indexCast (BitVec.ofNat 32 (grid0.coords t 1).val)).toNat = _
      exact (Nat.mod_eq_of_lt (by omega))
    · rfl
    · rfl
  rw [h, e1]

/-- and phase 1 reads it there. -/
theorem off2_eq (t : Fin cfg0.N) : k0_off2 (grid0.coords t) = slotAt (t.val % 10) := off1_eq t

/-- Two windows at equal offsets are equal. -/
theorem window_at {α : Type} {s : Shape} (x : s.Idx → α) {off off' : Fin s.rank → ℕ} (size : Fin s.rank → ℕ)
    (inb : ∀ a, off a + size a ≤ s.size a) (inb' : ∀ a, off' a + size a ≤ s.size a) (h : off = off') :
    VecWindow.window x off size inb = VecWindow.window x off' size inb' := by
  subst h; rfl

/-! ## What the buffers hold -/

variable (m : (ℓ : Loc nD τ sig) → Buf (Elt F) ℓ) (ρ : Dev nD → PrngReg)

/-- The block of logits staged at point `n`. -/
def chunk (c : Dev nD) (n : ℕ) : Vec F S10000x128 .f32 :=
  iblk m c 0 ⟨n % 20, by rw [show cfg0.N = 20 from N_0]; omega⟩

/-- The input's block at a point is that point's chunk. -/
theorem iblk_eq (c : Dev nD) (t : Fin cfg0.N) : iblk m c 0 t = chunk m c t.val := by
  have ht := lt20 t
  unfold chunk
  congr 1
  exact Fin.ext (Nat.mod_eq_of_lt ht).symm

/-- The sums before point `n`: zero, and the column sums of every chunk of phase 0 before `n` added in turn. -/
def sums (c : Dev nD) : ℕ → Vec F S8x128 .f32
  | 0 => k0_pay1
  | n + 1 => if n < 10 then k0_pay4 (chunk m c n) (sums c n) else sums c n

/-- In phase 0 a step adds the column sums of its chunk. -/
theorem sums_phase0 (c : Dev nD) {n : ℕ} (h : n < 10) : sums m c (n + 1) = k0_pay4 (chunk m c n) (sums m c n) := if_pos h

/-- In phase 1 the sums stay what phase 0 made of them. -/
theorem sums_phase1 (c : Dev nD) {n : ℕ} (h : 10 ≤ n) : sums m c n = sums m c 10 := by
  induction n, h using Nat.le_induction with
  | base => rfl
  | succ n hn ih => rw [← ih]; exact if_neg (by omega)

/-- The store `u` holds the exponentials of every chunk before point `n`. -/
def Keeps (c : Dev nD) (n : ℕ) (u : Vec F S10x10000x128 .bf16) : Prop :=
  ∀ (k : ℕ) (hk : k < 10), k < n → VecWindow.window u (slotAt k) S1x10000x128.size (slotAt_inb hk) = k0_pay3 (chunk m c k)

/-- Before the first point nothing has to be kept. -/
theorem Keeps.zero (c : Dev nD) (u : Vec F S10x10000x128 .bf16) : Keeps m c 0 u := fun _ _ h => absurd h (Nat.not_lt_zero _)

/-- A point of phase 0 adds its own chunk to those the store holds. -/
theorem Keeps.step {c : Dev nD} {t : Fin cfg0.N} {u : Vec F S10x10000x128 .bf16} (h : Keeps m c t.val u) (ht : t.val < 10) :
    Keeps m c (t.val + 1) (keepChunk (grid0.coords t) (chunk m c t.val) u) := by
  intro k hk hkn
  have e : k0_off1 (grid0.coords t) = slotAt t.val := by rw [off1_eq, Nat.mod_eq_of_lt ht]
  unfold keepChunk
  rw [e]
  rcases Nat.lt_or_ge k t.val with hlt | hge
  · rw [VecWindow.window_put_of_disjoint _ _ _ _ _ _ _ 0 (Or.inl (show k + 1 ≤ t.val by omega))]
    exact h k hk hlt
  · obtain rfl : k = t.val := by omega
    exact VecWindow.window_put_same _ _ _ _ _

/-- After phase 0 the store holds every chunk. -/
theorem Keeps.later {c : Dev nD} {n : ℕ} {u : Vec F S10x10000x128 .bf16} (h : Keeps m c n u) (hn : 10 ≤ n) (n' : ℕ) : Keeps m c n' u :=
  fun k hk _ => h k hk (by omega)

/-- The block written at a point of phase 1 that handles chunk `k`. -/
def result (c : Dev nD) (k : ℕ) : Vec F S10000x128 .f32 :=
  k0_pay5 (VecWindow.window (sums m c 10) ![0, 0] S1x128.size inb_S8x128_S1x128_0_0) (k0_pay3 (chunk m c k))

/-- In phase 1 the slot a point reads, scaled by the sums, is the result's chunk. -/
theorem scaled_eq {c : Dev nD} {t : Fin cfg0.N} {u : Vec F S10x10000x128 .bf16} (h : Keeps m c t.val u) (ht : 10 ≤ t.val)
    (h1 : inPhase1 (grid0.coords t)) : scaled (grid0.coords t) h1 u (sums m c t.val) = result m c (t.val % 10) := by
  unfold scaled result
  rw [sums_phase1 m c ht, window_at u S1x10000x128.size _ (slotAt_inb (by omega)) (off2_eq t), h _ (by omega) (by omega)]

/-! ## The invariant and the proof data -/

/-- The whole store of exponentials. -/
abbrev scU : Memref sig .tc .vmem S10x10000x128 .bf16 := Memref.whole cc0_scratch0
/-- The whole buffer of column sums. -/
abbrev scS : Memref sig .tc .vmem S8x128 .f32 := Memref.whole cc0_scratch1

/-- The invariant before point `n`: at the start the scratch buffers hold anything; later the store keeps the chunks seen
    so far and the other buffer holds the sums. -/
def Inv (c : Dev nD) : ℕ → sProp 𝕄
  | 0 => Pipeline.ΦA spec0 c
  | n + 1 => iprop(((∃ u, ⌜Keeps m c (n + 1) u⌝ ∗ owns (c : Thread nD τ) scU fullShare u) ∗ owns (c : Thread nD τ) scS fullShare (sums m c (n + 1)))
      ∗ (∃ r, prngReg c r))

/-- The invariant after a point. -/
theorem Inv_succ (c : Dev nD) (n : ℕ) : Inv m c (n + 1)
    = iprop(((∃ u, ⌜Keeps m c (n + 1) u⌝ ∗ owns (c : Thread nD τ) scU fullShare u) ∗ owns (c : Thread nD τ) scS fullShare (sums m c (n + 1)))
      ∗ (∃ r, prngReg c r)) := rfl

/-- The same, at any point but the first. -/
theorem Inv_pos (c : Dev nD) {n : ℕ} (h : n ≠ 0) : Inv m c n
    = iprop(((∃ u, ⌜Keeps m c n u⌝ ∗ owns (c : Thread nD τ) scU fullShare u) ∗ owns (c : Thread nD τ) scS fullShare (sums m c n))
      ∗ (∃ r, prngReg c r)) := by
  cases n with
  | zero => exact absurd rfl h
  | succ n => rfl

/-- The launch's invariant, its scratch buffers as memrefs. -/
theorem start_eq (c : Dev nD) : (Pipeline.ΦA spec0 c : sProp 𝕄)
    = iprop(((∃ d, owns (c : Thread nD τ) scU fullShare d) ∗ (∃ d, owns (c : Thread nD τ) scS fullShare d)) ∗ (∃ r, prngReg c r)) := by
  unfold Pipeline.ΦA; rw [scopedRest0_eq]; simp only [scU, scS, owns_whole]; rfl

/-- The proof data: the arrays as the region finds them, the input's buffer at its block, the output's buffer at the
    scaled chunk, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => result m c (t.val % 10)
  Φ t := Inv m c t.val
  q _ := fullShare
  owed _ := 0

/-- A window's array holds what the launch finds in it. -/
theorem A_eq (c : Dev nD) (w : Fin cfg0.W) : (dats m 0 c).A w = V m c (Pipeline.arrRef spec0 w) := by
  dsimp only [dats]

/-- The input's window is left holding its block. -/
theorem after_in (c : Dev nD) (t : Fin cfg0.N) : (dats m 0 c).after 0 t = iblk m c 0 t := by dsimp only [dats]

/-- The output's window is left holding the result's chunk. -/
theorem after_out (c : Dev nD) (t : Fin cfg0.N) : (dats m 0 c).after 1 t = result m c (t.val % 10) := by dsimp only [dats]

/-- The input's window is found holding its chunk. -/
theorem before_in (c : Dev nD) (t : Fin cfg0.N) (d) : (dats m 0 c).before 0 t d = chunk m c t.val :=
  (before0_0_of m (dats m 0 c) (A_eq m c 0) (after_in m c) t d).trans (iblk_eq m c t)

/-- The output's buffer is left alone in phase 0 -/
theorem out_idle (t : Fin cfg0.N) (h : ¬10 ≤ t.val) : cfg0.idle 1 (grid0.coords t) = true := by
  have h' : ¬k0_cond3 (grid0.coords t) = 1#1 := fun h' => h ((inPhase1_iff t).mp h')
  show (!(k0_cond3 (grid0.coords t) == 1#1)) = true
  simp [h']

/-- and written in phase 1; -/
theorem out_live (t : Fin cfg0.N) (h : 10 ≤ t.val) : cfg0.idle 1 (grid0.coords t) = false := by
  have h' : k0_cond3 (grid0.coords t) = 1#1 := (inPhase1_iff t).mpr h
  show (!(k0_cond3 (grid0.coords t) == 1#1)) = false
  simp [h']

/-- it is written back at the points of phase 1 and at no other. -/
theorem out_flush : ∀ t : Fin cfg0.N, (cfg0.win 1).flush t = decide (10 ≤ t.val) := by
  decide +kernel

end Cert.KernelIdeal.Soft

end
-- ==== Proof.Run.lean ====
/- The body obligation of the softmax kernel at every grid point, the run of the whole program, and the frame of the
   idealized kernel: it ends, its arguments are unchanged and every counter is zero. -/
module

public import proofs.«01_k».proof.Proof.Region
public import Idealize.ShloMosaic.Lib.Claim

@[expose] public section

set_option maxRecDepth 16384

noncomputable section

namespace Cert.KernelIdeal.Soft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

/-- The input's buffer is handed back with the same block in it. -/
theorem in_leaves (c : Dev nD) (t : Fin cfg0.N) :
    (dats m 0 c).leavesExact 0 t = owns (c : Thread nD τ) (st0_0 t) fullShare (chunk m c t.val) := by
  rw [← iblk_eq, ← after_in]

/-- In phase 0 the output's buffer is handed back as it was found. -/
theorem out_leaves_phase0 (c : Dev nD) (t : Fin cfg0.N) (h : ¬10 ≤ t.val) :
    (dats m 0 c).leavesExact 1 t = iprop(∃ d, owns (c : Thread nD τ) (st0_1 t) fullShare ((dats m 0 c).before 1 t d)) :=
  (dats m 0 c).leavesExact_idle 1 t (out_idle t h) (by rw [out_flush t, decide_eq_false h])

/-- In phase 1 it is handed back holding the scaled chunk. -/
theorem out_leaves_phase1 (c : Dev nD) (t : Fin cfg0.N) (h : 10 ≤ t.val) :
    (dats m 0 c).leavesExact 1 t = owns (c : Thread nD τ) (st0_1 t) fullShare (result m c (t.val % 10)) := by
  unfold Dat.leavesExact
  rw [out_live t h, after_out]

set_option maxHeartbeats 1600000 in
/-- The body at any point: it keeps the invariant, leaves the input's block in place and the output's buffer as the proof
    data say. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl, in_leaves]
  have hN := lt20 t
  by_cases h10 : 10 ≤ t.val
  · rw [out_leaves_phase1 m c t h10, Inv_pos m c (by omega)]
    iintro ⟨⟨⟨⟨%u, %hu, HU⟩, HS⟩, Hg⟩, Ho, ⟨%d0, H0⟩, ⟨%d1, H1⟩⟩
    iapply (run_scale c (grid0.coords t) _ _ _ _ _ _ _ _ (chunk m c t.val) _ u (sums m c t.val)
      (fun h => absurd ((inPhase0_iff t).mp h) (by omega)) ((inPhase1_iff t).mpr h10) Set.univ _)
    rw [scaled_eq m hu h10, show sums m c (t.val + 1) = sums m c t.val from if_neg (by omega)]
    isplitl [H0]; · iexact H0
    isplitl [H1]; · iexact H1
    isplitl [HU]; · iexact HU
    isplitl [HS]; · iexact HS
    iintro ⟨H0, H1, HU, HS⟩
    isplitl [HU HS Hg]
    · isplitl [HU HS]
      · isplitl [HU]
        · iexists u; isplitr; · ipureintro; exact hu.later m h10 _
          iexact HU
        iexact HS
      iexact Hg
    isplitl [Ho]; · iexact Ho
    isplitl [H0]; · iexact H0
    iexact H1
  · have h0 : t.val < 10 := by omega
    rw [out_leaves_phase0 m c t h10, sums_phase0 m c h0]
    by_cases hz : t.val = 0
    · rw [show Inv m c t.val = Pipeline.ΦA spec0 c from by rw [hz]; rfl, start_eq]
      rw [show sums m c t.val = k0_pay1 from by rw [hz]; rfl]
      iintro ⟨⟨⟨⟨%u, HU⟩, ⟨%s, HS⟩⟩, Hg⟩, Ho, ⟨%d0, H0⟩, ⟨%d1, H1⟩⟩
      iapply (run_first c (grid0.coords t) _ _ _ _ _ _ _ _ (chunk m c t.val) _ u s
        ((inPhase0_iff t).mpr h0) ((onChunk0_iff t).mpr (by omega)) (fun h => h10 ((inPhase1_iff t).mp h)) Set.univ _)
      isplitl [H0]; · iexact H0
      isplitl [H1]; · iexact H1
      isplitl [HU]; · iexact HU
      isplitl [HS]; · iexact HS
      iintro ⟨H0, H1, HU, HS⟩
      isplitl [HU HS Hg]
      · isplitl [HU HS]
        · isplitl [HU]
          · iexists _; isplitr; swap; · iexact HU
            ipureintro; exact Keeps.step m (by rw [hz]; exact Keeps.zero m c u) h0
          iexact HS
        iexact Hg
      isplitl [Ho]; · iexact Ho
      isplitl [H0]; · iexact H0
      iexists d1; iexact H1
    · rw [Inv_pos m c hz]
      iintro ⟨⟨⟨⟨%u, %hu, HU⟩, HS⟩, Hg⟩, Ho, ⟨%d0, H0⟩, ⟨%d1, H1⟩⟩
      iapply (run_later c (grid0.coords t) _ _ _ _ _ _ _ _ (chunk m c t.val) _ u (sums m c t.val)
        ((inPhase0_iff t).mpr h0) (fun h => absurd ((onChunk0_iff t).mp h) (by omega)) (fun h => h10 ((inPhase1_iff t).mp h)) Set.univ _)
      isplitl [H0]; · iexact H0
      isplitl [H1]; · iexact H1
      isplitl [HU]; · iexact HU
      isplitl [HS]; · iexact HS
      iintro ⟨H0, H1, HU, HS⟩
      isplitl [HU HS Hg]
      · isplitl [HU HS]
        · isplitl [HU]
          · iexists _; isplitr; swap; · iexact HU
            ipureintro; exact hu.step m h0
          iexact HS
        iexact Hg
      isplitl [Ho]; · iexact Ho
      isplitl [H0]; · iexact H0
      iexists d1; iexact H1

/-- The kernel function called at a point is the body on that point's staging buffers. -/
theorem body_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- The launch gives the invariant before the first point. -/
theorem enter (c : Dev nD) : Pipeline.ΦA spec0 c ⊢ (dats m 0 c).Φ 0 := Idealize.SL.BI.Entails.refl _

/-- After the last point the scratch buffers' contents are forgotten. -/
theorem leave (c : Dev nD) : (dats m 0 c).Φ (Fin.last cfg0.N) ⊢ Pipeline.ΦA spec0 c := by
  rw [show (dats m 0 c).Φ (Fin.last cfg0.N) = Inv m c 20 from rfl, Inv_pos m c (by omega), start_eq]
  iintro ⟨⟨⟨%u, -, HU⟩, HS⟩, Hg⟩
  isplitl [HU HS]
  · isplitl [HU]
    · iexists u; iexact HU
    iexists _; iexact HS
  iexact Hg

set_option backward.isDefEq.respectTransparency.types false in
set_option maxHeartbeats 800000 in
/-- The run: the program ends with every array at what the proof data say, the rest at what the host lines leave, and
    every counter zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m) (hQ' := fun _ h => h)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run m ρ))

/-- The frame: the program ends, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run m ρ))

end Cert.KernelIdeal.Soft

end
-- ==== Proof.Printed.lean ====
/- The kernel as printed and the idealized kernel are one program, since the idealization rewrites nothing: so the frame
   proved of the idealized kernel for every reading of the floats is also the printed kernel's. -/
module

public import proofs.«01_k».proof.Proof.Gen.Kernel
public import proofs.«01_k».proof.Proof.Run

@[expose] public section

set_option maxRecDepth 16384

noncomputable section

namespace Cert.Kernel.Soft

open Idealize.ShloMosaic Idealize.SL.Sem
open Cert.Kernel Cert.Kernel.Gen

variable {F : FTy → Type} [FloatOps F]

/-- The two programs' kernel functions are one. -/
theorem body_same : cc0__softmax_body (F := F) = KernelIdeal.cc0__softmax_body (F := F) := rfl

/-- So their tables of kernel functions are one, -/
theorem defs₀_same : defs₀ (F := F) = KernelIdeal.defs₀ (F := F) := by
  unfold defs₀ KernelIdeal.defs₀
  refine congrArg Defs.onTc (funext fun l => funext fun x => ?_)
  match l, x with
  | 0, (_, _) => simp only [body_same]; rfl

/-- and with the pipeline's, their whole tables. -/
theorem defs_same : defs (F := F) = KernelIdeal.defs (F := F) := congrArg (Pipeline.defs (KernelIdeal.pcfgs (F := F))) defs₀_same

/-- The frame of the printed kernel: it ends, its arguments unchanged and every counter zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same]
  exact KernelIdeal.Soft.frame m ρ

end Cert.Kernel.Soft

end
-- ==== Proof.KernelValue.lean ====
/- The array the softmax kernel leaves: the blocks phase 1 writes back tile the whole array, which the program then
   transposes into its result. -/
module

public import proofs.«01_k».proof.Proof.Run
public import Idealize.ShloMosaic.Lib.ValueIdxCore
public import Idealize.ShloMosaic.Lib.Pipeline.Value

@[expose] public section

set_option maxRecDepth 16384

noncomputable section

namespace Cert.KernelIdeal.Soft

open Idealize.ShloMosaic Idealize.ShloMosaic.TcCoe Idealize.ShloMosaic.ValueIdx
open Idealize.SL.Sem
open Idealize.ShloMosaic.Pipeline (Dat)
open Cert.KernelIdeal.Gen

variable {F : FTy → Type} [FloatOps F]
variable (m : (ℓ : Loc nD τ sig) → Buf (Elt F) ℓ) (ρ : Dev nD → PrngReg)

/-! ## Where the blocks lie -/

/-- In phase 0 the input's block is the chunk of the same number. -/
theorem in_index : ∀ t : Fin cfg0.N, t.val < 10 → win0_0.index t (0 : Fin 2) = t.val ∧ win0_0.index t (1 : Fin 2) = 0 := by
  decide +kernel

/-- In phase 1 the output's block is the chunk in hand. -/
theorem out_index : ∀ t : Fin cfg0.N, 10 ≤ t.val → win0_1.index t (0 : Fin 2) = t.val % 10 ∧ win0_1.index t (1 : Fin 2) = 0 := by
  decide +kernel

/-- Row `r` of chunk `k`, counted from the first row of the array. -/
abbrev rowOf (k : ℕ) (hk : k < 10) (r : Fin 10000) : Fin 100000 := ⟨k * 10000 + r.val, by have := r.isLt; omega⟩

/-- A chunk is a run of ten thousand rows of the logits. -/
theorem chunk_apply (c : Dev nD) {k : ℕ} (hk : k < 10) (r : Fin 10000) (b : Fin 128) :
    chunk m c k (ix2 r b) = m ((c.tc : Thread nD τ).loc main_arg0) (ix2 (rowOf k hk r) b) := by
  have hk20 : k % 20 = k := Nat.mod_eq_of_lt (by omega)
  obtain ⟨e0, e1⟩ := in_index ⟨k % 20, by rw [show cfg0.N = 20 from N_0]; omega⟩ (show k % 20 < 10 by omega)
  refine congrArg (m ((c.tc : Thread nD τ).loc main_arg0)) (funext fun a => Fin.ext ?_)
  match a with
  | ⟨0, _⟩ =>
    show win0_0.index _ (0 : Fin 2) * 10000 + 1 * r.val = k * 10000 + r.val
    rw [e0]; show k % 20 * 10000 + _ = _; rw [hk20]; omega
  | ⟨1, _⟩ =>
    show win0_0.index _ (1 : Fin 2) * 128 + 1 * b.val = b.val
    rw [e1]; omega

/-- Where an element of the block of a point of phase 1 lies in the array. -/
theorem out_emb (t : Fin cfg0.N) (ht : 10 ≤ t.val) (j : S10000x128.Idx) :
    ((cfg0.win 1).blk t).view.emb j = (ix2 (rowOf (t.val % 10) (Nat.mod_lt _ (by decide)) (j 0)) (j 1) : S100000x128.Idx) := by
  obtain ⟨e0, e1⟩ := out_index t ht
  funext a
  apply Fin.ext
  match a with
  | ⟨0, _⟩ =>
    show win0_1.index t (0 : Fin 2) * 10000 + 1 * (j 0).val = t.val % 10 * 10000 + (j 0).val
    rw [e0]; omega
  | ⟨1, _⟩ =>
    show win0_1.index t (1 : Fin 2) * 128 + 1 * (j 1).val = (j 1).val
    rw [e1]; omega

/-! ## The array after the run -/

/-- The whole array: row `v` is row `v % 10000` of the block written for chunk `v / 10000`. -/
def total (c : Dev nD) : Vec F S100000x128 .f32 := fun i =>
  result m c ((i 0).val / 10000) (ix2 ⟨(i 0).val % 10000, Nat.mod_lt _ (by decide)⟩ (i 1))

/-- So it is the blocks of the chunks one after another. -/
theorem total_apply (c : Dev nD) {k : ℕ} (hk : k < 10) (r : Fin 10000) (b : Fin 128) :
    total m c (ix2 (rowOf k hk r) b) = result m c k (ix2 r b) := by
  have hr := r.isLt
  have e0 : (k * 10000 + r.val) / 10000 = k := by omega
  have e1 : (⟨(k * 10000 + r.val) % 10000, Nat.mod_lt _ (by decide)⟩ : Fin 10000) = r := Fin.ext (by show (k * 10000 + r.val) % 10000 = r.val; omega)
  show result m c ((k * 10000 + r.val) / 10000) (ix2 ⟨(k * 10000 + r.val) % 10000, _⟩ b) = _
  rw [e0, e1]

/-- Each point of phase 1 writes back its block of `total`. -/
theorem flushed_eq (c : Dev nD) (t : Fin cfg0.N) (ht : 10 ≤ t.val) :
    (dats m 0 c).flushed 1 t = ((cfg0.win 1).blk t).view.read (Elt F) (total m c) := by
  show (cfg0.win 1).cut (cfg0.grid.coords t) ((dats m 0 c).after 1 t) = _
  rw [after_out]
  funext (j : S10000x128.Idx)
  show result m c (t.val % 10) j = total m c (((cfg0.win 1).blk t).view.emb j)
  rw [out_emb t ht]
  exact (congrArg (result m c (t.val % 10)) (eq_ix2 j)).trans (total_apply m c (Nat.mod_lt _ (by decide)) (j 0) (j 1)).symm

/-- Every element of the array lies in the block of a point of phase 1. -/
theorem covered (i : S100000x128.Idx) :
    ∃ t : Fin cfg0.N, (cfg0.win 1).flush t = true ∧ i ∈ ((cfg0.win 1).blk t).view.set := by
  have hi : (i 0).val < 100000 := (i 0).isLt
  let t : Fin cfg0.N := ⟨10 + (i 0).val / 10000, by rw [show cfg0.N = 20 from N_0]; omega⟩
  have ht : 10 ≤ t.val := Nat.le_add_right _ _
  refine ⟨t, by rw [out_flush, decide_eq_true ht], ?_⟩
  let j : S10000x128.Idx := ix2 ⟨(i 0).val % 10000, Nat.mod_lt _ (by decide)⟩ (i 1)
  have h := ((cfg0.win 1).blk t).view.emb_mem_set j
  rw [out_emb t ht j] at h
  have e : (ix2 (rowOf (t.val % 10) (Nat.mod_lt _ (by decide)) (j 0)) (j 1) : S100000x128.Idx) = i := by
    funext a
    apply Fin.ext
    match a with
    | ⟨0, _⟩ => show (10 + (i 0).val / 10000) % 10 * 10000 + (i 0).val % 10000 = (i 0).val; omega
    | ⟨1, _⟩ => rfl
  rwa [e] at h

/-- After the run the array is `total`. -/
theorem array_eq (c : Dev nD) : (dats m 0 c).arrAt 1 cfg0.N = total m c :=
  (dats m 0 c).arrAt_eq_of_cover 1 (total m c)
    (fun t hf => flushed_eq m c t (by rw [out_flush] at hf; exact of_decide_eq_true hf)) covered

/-- The program's result: the array transposed. -/
theorem tail_eq (c : Dev nD) :
    Pipeline.afterTail₀ cfgs (dats m) 0 (V0 m) [hostOps1] c main_v1
      = transpose S128x100000 [1, 0] (total m c) transposes_S100000x128_S128x100000_1_0 := by
  have e : Pipeline.withArrays spec0 c (V0 m c) (fun w => (dats m 0 c).arrAt w cfg0.N) (Proc.devRef .tc main_v0) = total m c :=
    (Pipeline.withArrays_arr spec0 (by decide) c (V0 m c) (fun w => (dats m 0 c).arrAt w cfg0.N) 1).trans (array_eq m c)
  unfold Pipeline.afterTail₀
  simp only [hostOps1, List.flatten_cons, List.flatten_nil, List.append_nil]
  after_results
  rw [← e]

/-- The run: the result is the array transposed and the arguments end as they were. -/
theorem run_value : θ_run defs (onTc (τ := τ) (main (F := F))) ⟨m, fun _ => 0, ρ⟩ (fun r => ∀ c : Dev nD,
      r.2.mem ((c.tc : Thread nD τ).loc main_v1) = transpose S128x100000 [1, 0] (total m c) transposes_S100000x128_S128x100000_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1.1 c).2 main_v1 (Pipeline.mem_restRefs_of main_v1 (by decide) (by decide))).trans (tail_eq m c), h.2 c⟩)
    (θ_run_and (run m ρ) (unchanged m ρ))

end Cert.KernelIdeal.Soft

end
-- ==== Proof.Softmax.lean ====
/- The mathematics of the softmax claim over the extended reals: the softmax of a row whose maximum is subtracted first
   equals the exponential times the reciprocal of the plain sum of exponentials. -/
module

public import Idealize.ShloMosaic.PureOps.Ideal
public import Idealize.ShloMosaic.PureOps.Ideal.Laws

@[expose] public section

noncomputable section

namespace Cert.Softmax

open Idealize.ShloMosaic

/-! ## The literals of the two programs -/

/-- The pattern of one in 32 bits reads as one, -/
theorem one_f32 : Ideal.ofBits .f32 0x3F800000#32 = 1 := by
  simp [Ideal.ofBits, Ideal.ieee, -EReal.coe_mul]; norm_num

/-- and so does the pattern of one in 16 bits; -/
theorem one_bf16 : Ideal.ofBits .bf16 0x3F80#16 = 1 := by
  simp [Ideal.ofBits, Ideal.ieee, -EReal.coe_mul]; norm_num

/-- the pattern of minus infinity reads as the least extended real. -/
theorem neg_inf : Ideal.ofBits .f32 0xFF800000#32 = ⊥ := by
  simp [Ideal.ofBits, Ideal.ieee]

/-! ## The identity -/

/-- An extended real's exponential, for anything below plus infinity, is a real number that is not negative. -/
theorem exp_real {x : EReal} (hx : x ≠ ⊤) : ∃ r : ℝ, 0 ≤ r ∧ Ideal.exp x = (r : EReal) := by
  induction x with
  | bot => exact ⟨0, le_rfl, rfl⟩
  | top => exact absurd rfl hx
  | coe x => exact ⟨Real.exp x, (Real.exp_pos x).le, rfl⟩

/-- Subtracting a real number in the exponent is multiplying by the exponential of its negative. -/
theorem exp_sub {x : EReal} (hx : x ≠ ⊤) (M : ℝ) :
    Ideal.exp (x - (M : EReal)) = Ideal.exp x * ((Real.exp (-M) : ℝ) : EReal) := by
  induction x with
  | bot =>
    rw [show (⊥ : EReal) - (M : EReal) = ⊥ from EReal.bot_sub _, show Ideal.exp ⊥ = 0 from rfl, zero_mul]
  | top => exact absurd rfl hx
  | coe x =>
    rw [← EReal.coe_sub]
    show ((Real.exp (x - M) : ℝ) : EReal) = ((Real.exp x : ℝ) : EReal) * _
    rw [← EReal.coe_mul, ← Real.exp_add, sub_eq_add_neg]

/-- The softmax of row `x` at `v`, with the real `M` subtracted from every logit, is the exponential of the logit times
    the reciprocal of the sum of exponentials, when no logit is plus infinity and one is not minus infinity. -/
theorem softmax_eq {n : ℕ} (x : Fin n → EReal) (hx : ∀ v, x v ≠ ⊤) {w : Fin n} (hw : x w ≠ ⊥) (M : ℝ) (v : Fin n) :
    Ideal.div (Ideal.exp (x v - (M : EReal))) (∑ k, Ideal.exp (x k - (M : EReal)))
      = Ideal.exp (x v) * Ideal.div 1 (∑ k, Ideal.exp (x k)) := by
  choose e he0 he using fun k => exp_real (hx k)
  have hpos : 0 < e w := by
    refine lt_of_le_of_ne (he0 w) fun h => ?_
    have h1 := he w
    rw [← h] at h1
    induction hxw : x w with
    | bot => exact hw hxw
    | top => exact hx w hxw
    | coe r =>
      rw [hxw] at h1
      exact absurd (EReal.coe_eq_coe_iff.mp h1) (Real.exp_pos r).ne'
  have hS : 0 < ∑ k, e k := Finset.sum_pos' (fun k _ => he0 k) ⟨w, Finset.mem_univ w, hpos⟩
  have hE : 0 < Real.exp (-M) := Real.exp_pos _
  have e1 : ∀ k, Ideal.exp (x k - (M : EReal)) = ((e k * Real.exp (-M) : ℝ) : EReal) := fun k => by
    rw [exp_sub (hx k), he k, EReal.coe_mul]
  have esum : ∀ f : Fin n → ℝ, ∑ k, ((f k : ℝ) : EReal) = ((∑ k, f k : ℝ) : EReal) := fun f => by
    induction (Finset.univ : Finset (Fin n)) using Finset.induction_on with
    | empty => simp
    | insert a s ha ih => rw [Finset.sum_insert ha, Finset.sum_insert ha, ih, EReal.coe_add]
  simp only [e1, he]
  rw [esum, esum, ← Finset.sum_mul, Ideal.div_coe (mul_pos hS hE).ne', Ideal.div_coe hS.ne', one_mul,
    ← EReal.coe_mul, ← EReal.coe_mul, EReal.coe_eq_coe_iff]
  field_simp

end Cert.Softmax

end
-- ==== Proof.KernelSum.lean ====
/- The kernel's result read at an index over the extended reals: the exponential of the clamped logit times the reciprocal
   of the sum of the clamped exponentials of the whole column. -/
module

public import proofs.«01_k».proof.Proof.KernelValue
public import proofs.«01_k».proof.Proof.Softmax
public import Idealize.ShloMosaic.Lib.MatmulPlain

@[expose] public section

set_option maxRecDepth 16384

noncomputable section

namespace Cert.KernelIdeal.Soft

open Idealize.ShloMosaic Idealize.ShloMosaic.TcCoe Idealize.ShloMosaic.ValueIdx
open Cert.KernelIdeal.Gen

/-- The kernel's clamp as an extended real. -/
abbrev clampAt : EReal := Ideal.ofBits .f32 0x42AE0000#32

/-- It is the real number 87. -/
theorem clampAt_eq : clampAt = ((87 : ℝ) : EReal) := by
  simp [clampAt, Ideal.ofBits, Ideal.ieee, -EReal.coe_mul]; norm_num

/-- The kernel's exponential of a logit. -/
abbrev clampedExp (x : EReal) : EReal := Ideal.exp (min x clampAt)

/-- A chunk is clamped and exponentiated element by element. -/
theorem pay2_apply (x : Vec Ideal S10000x128 .f32) (i : S10000x128.Idx) : k0_pay2 (F := Ideal) x i = clampedExp (x i) := rfl

/-- The buffer of sums starts at zero. -/
theorem pay1_apply (i : S8x128.Idx) : k0_pay1 (F := Ideal) i = 0 := by
  unfold k0_pay1
  rw [shapeCast_self]
  exact Ideal.ofBits_zero_f32

/-- One chunk adds its column sums to every row of the buffer of sums. -/
theorem pay4_apply (x : Vec Ideal S10000x128 .f32) (s : Vec Ideal S8x128 .f32) (a : Fin 8) (b : Fin 128) :
    k0_pay4 (F := Ideal) x s (ix2 a b) = s (ix2 a b) + ∑ r : Fin 10000, clampedExp (x (ix2 r b)) := by
  unfold k0_pay4
  rw [shapeCast_self]
  show s (ix2 a b) + FloatOps.matmul (DotDims.plain 8 10000 128) none (broadcast S8x10000 (Ideal.ofBits .bf16 0x3F80#16))
    (k0_pay2 (F := Ideal) x) (constant S8x128 .f32 0x00000000#32) (ix2 a b) = _
  rw [Ideal.matmul_plain_apply]
  show s (ix2 a b) + (Ideal.ofBits .f32 0x00000000#32 + ∑ r : Fin 10000, Ideal.ofBits .bf16 0x3F80#16 * clampedExp (x (ix2 r b))) = _
  rw [Ideal.ofBits_zero_f32, zero_add, Softmax.one_bf16]
  simp only [one_mul]

/-- The block written for a chunk: its exponentials times the reciprocals of the sums. -/
theorem pay5_apply (s : Vec Ideal S1x128 .f32) (x : Vec Ideal S10000x128 .f32) (r : Fin 10000) (b : Fin 128) :
    k0_pay5 (F := Ideal) s (k0_pay3 x) (ix2 r b) = clampedExp (x (ix2 r b)) * Ideal.div 1 (s (ix2 0 b)) := by
  have e1 : shapeCast S10000x128 (k0_pay3 (F := Ideal) x) shapeCasts_S1x10000x128_S10000x128 = k0_pay2 x :=
    shapeCast_shapeCast _ _ _
  have e2 : ∀ v : Vec Ideal S1x128 .f32, broadcastTo S10000x128 v broadcasts_S1x128_S10000x128 (ix2 r b) = v (ix2 0 b) := fun v =>
    broadcastTo_apply v broadcasts_S1x128_S10000x128 (ix2 r b) (ix2 0 b) (fun a => match a with
      | ⟨0, _⟩ => by show 0 = if (1 : ℕ) = 1 then 0 else r.val; rw [if_pos rfl]
      | ⟨1, _⟩ => by show b.val = if (128 : ℕ) = 1 then 0 else b.val; rw [if_neg (by decide)])
  unfold k0_pay5
  rw [e1]
  show clampedExp (x (ix2 r b)) * broadcastTo S10000x128 _ broadcasts_S1x128_S10000x128 (ix2 r b) = _
  rw [e2]
  show _ * Ideal.div (Ideal.ofBits .f32 0x3F800000#32) (s (ix2 0 b)) = _
  rw [Softmax.one_f32]

variable (m : (ℓ : Loc nD τ sig) → Buf (Elt Ideal) ℓ)

/-- The logit at row `v` and column `b` of the argument. -/
abbrev logit (c : Dev nD) (b : Fin 128) (v : Fin 100000) : EReal := m ((c.tc : Thread nD τ).loc main_arg0) (ix2 v b)

/-- Before point `n` of phase 0 every row of the buffer of sums holds, per column, the sum over the chunks before `n`. -/
theorem sums_apply (c : Dev nD) (a : Fin 8) (b : Fin 128) : ∀ n : ℕ, n ≤ 10 →
    sums m c n (ix2 a b) = ∑ k ∈ Finset.range n, ∑ r : Fin 10000, clampedExp (chunk m c k (ix2 r b))
  | 0, _ => by rw [Finset.sum_range_zero]; exact pay1_apply _
  | n + 1, h => by
    rw [Finset.sum_range_succ, sums_phase0 m c (by omega), pay4_apply, sums_apply c a b n (by omega)]

/-- After phase 0 that is the sum over the whole column. -/
theorem sums_total (c : Dev nD) (a : Fin 8) (b : Fin 128) :
    sums m c 10 (ix2 a b) = ∑ v : Fin 100000, clampedExp (logit m c b v) := by
  rw [sums_apply m c a b 10 le_rfl, Finset.sum_range]
  have e : ∀ (k : Fin 10) (r : Fin 10000), chunk m c k.val (ix2 r b) = logit m c b ((finProdFinEquiv : Fin 10 × Fin 10000 ≃ Fin (10 * 10000)) (k, r)) := fun k r => by
    rw [chunk_apply m c k.isLt r b]
    refine congrArg (fun v => logit m c b v) (Fin.ext ?_)
    show k.val * 10000 + r.val = r.val + 10000 * k.val
    omega
  simp only [e]
  rw [← Fintype.sum_prod_type' (f := fun (k : Fin 10) (r : Fin 10000) =>
    clampedExp (logit m c b ((finProdFinEquiv : Fin 10 × Fin 10000 ≃ Fin (10 * 10000)) (k, r))))]
  exact Equiv.sum_comp (finProdFinEquiv : Fin 10 × Fin 10000 ≃ Fin (10 * 10000)) (fun v => clampedExp (logit m c b v))

/-- The array at a row and a column. -/
theorem total_value (c : Dev nD) (v : Fin 100000) (b : Fin 128) :
    total m c (ix2 v b) = clampedExp (logit m c b v) * Ideal.div 1 (∑ w : Fin 100000, clampedExp (logit m c b w)) := by
  have hv := v.isLt
  have hk : v.val / 10000 < 10 := by omega
  let r : Fin 10000 := ⟨v.val % 10000, Nat.mod_lt _ (by decide)⟩
  have ev : v = rowOf (v.val / 10000) hk r := Fin.ext (by show v.val = v.val / 10000 * 10000 + v.val % 10000; omega)
  have ew : VecWindow.window (sums m c 10) ![0, 0] S1x128.size inb_S8x128_S1x128_0_0 (ix2 0 b) = sums m c 10 (ix2 0 b) := by
    refine congrArg (sums m c 10) (funext fun a => Fin.ext ?_)
    rw [Rect.emb_apply]
    match a with
    | ⟨0, _⟩ => rfl
    | ⟨1, _⟩ => show 0 + 1 * b.val = b.val; omega
  rw [ev, total_apply m c hk r b]
  unfold result
  rw [pay5_apply, ew, sums_total, chunk_apply m c hk r b]

end Cert.KernelIdeal.Soft

end
-- ==== Proof.RefValue.lean ====
/- The reference read at an index over the extended reals: each logit minus the largest of its row, exponentiated and
   divided by the row's sum of the same. -/
module

public import proofs.«01_k».proof.Proof.Gen.ReferenceIdeal.Read
public import proofs.«01_k».proof.Proof.Softmax
public import Idealize.ShloMosaic.Lib.ValueIdxCore

@[expose] public section

set_option maxRecDepth 16384

noncomputable section

namespace Cert.ReferenceIdeal.Soft

open Idealize.ShloMosaic Idealize.ShloMosaic.ValueIdx
open Cert.ReferenceIdeal Cert.ReferenceIdeal.Gen Cert.ReferenceIdeal.Read

/-- Dividing by the literal one changes nothing. -/
theorem div_one (x : EReal) : Ideal.div x (Ideal.ofBits .f32 0x3F800000#32) = x := by
  rw [Softmax.one_f32, ← EReal.coe_one, Ideal.div_coe one_ne_zero, one_div_one, EReal.coe_one, mul_one]

variable (x : FVec Ideal S100000x128 .f32)

/-- The scaled logits are the logits transposed: the scale is one. -/
theorem v2_apply (b : Fin 128) (v : Fin 100000) : val_main_v2 (F := Ideal) x (ix2 b v) = x (ix2 v b) := by
  rw [val_main_v2_apply, val_main_v0_apply]
  exact (div_one _).trans (congrArg x (funext fun a => by match a with | ⟨0, _⟩ => rfl | ⟨1, _⟩ => rfl))

/-- The largest logit of row `b` of the transposed logits. -/
def rowMax (b : Fin 128) : EReal := (Finset.univ : Finset (Fin 100000)).fold max ⊥ fun v => x (ix2 v b)

/-- The reference's maximum over the row is that. -/
theorem v3_apply (b : Fin 128) : val_main_v3 (F := Ideal) x (ix1 b) = rowMax x b := by
  have h : S128x100000.Reduces [1] S128 := by decide
  have e : ∀ v : Fin 100000, h.lift (ix1 b) v = ix2 b v := fun v => funext fun a => Fin.ext (by
    match a with
    | ⟨0, _⟩ => rfl
    | ⟨1, _⟩ => rfl)
  have ef : val_main_v2 (F := Ideal) x ∘ h.lift (ix1 b) = fun v : Fin 100000 => x (ix2 v b) :=
    funext fun v => (congrArg (val_main_v2 (F := Ideal) x) (e v)).trans (v2_apply x b v)
  unfold val_main_v3
  rw [Host.reduce_eq_fold_single FloatOps.maximumf _ _ reducesTo_S128x100000_S128_d1 h h_S_, ef, val_main_cst_0_apply,
    Ideal.ofBits_def, Softmax.neg_inf]
  unfold rowMax
  congr 1

/-- What the reference subtracts from every logit of row `b`. -/
theorem v7_apply (b : Fin 128) (v : Fin 100000) : val_main_v7 (F := Ideal) x (ix2 b v) = rowMax x b := by
  rw [val_main_v7_apply, val_main_v6_apply, val_main_v5_apply, val_main_v4_apply, val_main_cst_1_apply]
  rw [show idx_main_v6 (idx_main_v7 (ix2 b v)) = ix1 b from funext fun a => by match a with | ⟨0, _⟩ => rfl, v3_apply]
  show max (Ideal.ofBits .f32 0xFF800000#32) (rowMax x b) = _
  rw [Softmax.neg_inf, max_eq_right bot_le]

/-- The exponential of each logit minus the largest of its row. -/
theorem v9_apply (b : Fin 128) (v : Fin 100000) :
    val_main_v9 (F := Ideal) x (ix2 b v) = Ideal.exp (x (ix2 v b) - rowMax x b) := by
  rw [val_main_v9_apply, val_main_v8_apply, v2_apply, v7_apply]
  rfl

/-- The sum of those exponentials over the row. -/
theorem v12_apply (b : Fin 128) (v : Fin 100000) :
    val_main_v12 (F := Ideal) x (ix2 b v) = ∑ w : Fin 100000, Ideal.exp (x (ix2 w b) - rowMax x b) := by
  rw [val_main_v12_apply, val_main_v11_apply, val_main_v10_apply, val_main_cst_2_apply]
  show Ideal.ofBits .f32 0x00000000#32 + _ = _
  rw [Ideal.ofBits_zero_f32, zero_add]
  refine Finset.sum_congr rfl fun w _ => ?_
  rw [← v9_apply]
  exact congrArg _ (funext fun a => by match a with | ⟨0, _⟩ => rfl | ⟨1, _⟩ => rfl)

/-- The reference's result at a row and a column. -/
theorem result_apply (b : Fin 128) (v : Fin 100000) :
    val_main_v13 (F := Ideal) x (ix2 b v)
      = Ideal.div (Ideal.exp (x (ix2 v b) - rowMax x b)) (∑ w : Fin 100000, Ideal.exp (x (ix2 w b) - rowMax x b)) := by
  rw [val_main_v13_apply, v9_apply, v12_apply]
  rfl

/-- When no logit of the row is plus infinity and one is not minus infinity, the largest is a real number. -/
theorem rowMax_real (b : Fin 128) (hx : ∀ v, x (ix2 v b) ≠ ⊤) {w : Fin 100000} (hw : x (ix2 w b) ≠ ⊥) :
    ∃ M : ℝ, rowMax x b = (M : EReal) := by
  have htop : rowMax x b < ⊤ := (Finset.fold_max_lt _).mpr ⟨bot_lt_top, fun v _ => lt_top_iff_ne_top.mpr (hx v)⟩
  have hbot : ⊥ < rowMax x b := (Finset.lt_fold_max _).mpr (Or.inr ⟨w, Finset.mem_univ w, bot_lt_iff_ne_bot.mpr hw⟩)
  exact ⟨(rowMax x b).toReal, (EReal.coe_toReal htop.ne hbot.ne').symm⟩

end Cert.ReferenceIdeal.Soft

end
-- ==== Proof.Range.lean ====
/- The precondition read at an index: no logit is above 87, and every column has a logit that is not minus infinity. -/
module

public import proofs.«01_k».proof.Proof.Gen.Pre_logits_in_range
public import proofs.«01_k».proof.Proof.Softmax
public import Idealize.ShloMosaic.Lib.Pipeline.Value
public import Idealize.ShloMosaic.Lib.ValueIdxCore
public import Idealize.ShloMosaic.Lib.WordCmp

@[expose] public section

set_option maxRecDepth 16384

noncomputable section

namespace Cert.Pre_logits_in_range.Soft

open Idealize.ShloMosaic Idealize.ShloMosaic.ValueIdx
open Cert.Pre_logits_in_range Cert.Pre_logits_in_range.Gen

variable {x0 : FVec Ideal S100000x128 .f32} {x1 : IVec S128x512 32} {x2 x3 : IVec S_ 32}

/-- The two comparisons the precondition makes at an index, both true. -/
theorem compared (h : Cert.Pre_logits_in_range.fn (F := Ideal) x0 x1 x2 x3 = fun _ => 1#1) (v : Fin 100000) (b : Fin 128) :
    x0 (ix2 v b) ≤ Ideal.ofBits .f32 0x42AE0000#32
      ∧ Ideal.ofBits .f32 0xFF800000#32
        < Host.reduce FloatOps.maximumf x0 (constant (F := Ideal) S_ .f32 0xFF800000#32) reducesTo_S100000x128_S128_d0 h_S_ (ix1 b) := by
  have e := congrFun h (ix2 v b)
  have e1 : ∀ y : S1x128.Idx → BitVec 1, broadcastInDim S100000x128 ![0, 1] bcast_S1x128_S100000x128_0_1 y (ix2 v b) = y (ix2 0 b) := fun y =>
    broadcastInDim_apply _ bcast_S1x128_S100000x128_0_1 y (ix2 v b) (ix2 0 b) (fun a => match a with
      | ⟨0, _⟩ => by show 0 = if (1 : ℕ) = 1 then 0 else v.val; rw [if_pos rfl]
      | ⟨1, _⟩ => by show b.val = if (128 : ℕ) = 1 then 0 else b.val; rw [if_neg (by decide)])
  have e2 : ∀ y : S128.Idx → EReal, broadcastInDim S1x128 ![1] bcast_S128_S1x128_1 y (ix2 0 b) = y (ix1 b) := fun y =>
    broadcastInDim_apply _ bcast_S128_S1x128_1 y (ix2 0 b) (ix1 b) (fun a => match a with
      | ⟨0, _⟩ => by show b.val = if (128 : ℕ) = 1 then 0 else b.val; rw [if_neg (by decide)])
  unfold Cert.Pre_logits_in_range.fn at e
  dsimp only at e
  generalize Host.reduce (FloatOps.maximumf (F := Ideal) (φ := .f32)) x0 (constant (F := Ideal) S_ .f32 0xFF800000#32)
    reducesTo_S100000x128_S128_d0 h_S_ = R at e ⊢
  have e' : IntOp.andi (Ideal.cmp .ole (x0 (ix2 v b)) (Ideal.ofBits .f32 0x42AE0000#32))
      (broadcastInDim S100000x128 ![0, 1] bcast_S1x128_S100000x128_0_1
        (fun i => Ideal.cmp .ogt (broadcastInDim S1x128 ![1] bcast_S128_S1x128_1 R i) (Ideal.ofBits .f32 0xFF800000#32)) (ix2 v b)) = 1#1 := e
  rw [e1, e2] at e'
  simp only [Ideal.cmp, WordCmp.andi_ofBool, WordCmp.ofBool_eq_one_iff, Bool.and_eq_true, decide_eq_true_eq] at e'
  exact e'

/-- No logit is above the clamp. -/
theorem le_clamp (h : Cert.Pre_logits_in_range.fn (F := Ideal) x0 x1 x2 x3 = fun _ => 1#1) (v : Fin 100000) (b : Fin 128) :
    x0 (ix2 v b) ≤ Ideal.ofBits .f32 0x42AE0000#32 := (compared h v b).1

/-- Every column has a logit that is not minus infinity. -/
theorem exists_ne_bot (h : Cert.Pre_logits_in_range.fn (F := Ideal) x0 x1 x2 x3 = fun _ => 1#1) (b : Fin 128) :
    ∃ w : Fin 100000, x0 (ix2 w b) ≠ ⊥ := by
  have hr : S100000x128.Reduces [0] S128 := by decide
  have hb := (compared h 0 b).2
  rw [Host.reduce_eq_fold_single FloatOps.maximumf _ _ reducesTo_S100000x128_S128_d0 hr h_S_] at hb
  have hb' : ⊥ < (Finset.univ : Finset (Fin 100000)).fold max ⊥ (fun w => (x0 (hr.lift (ix1 b) w) : EReal)) := by
    rw [← Softmax.neg_inf]; exact hb
  obtain hb' | ⟨w, -, hw⟩ := (Finset.lt_fold_max _).mp hb'
  · exact absurd hb' (lt_irrefl _)
  · refine ⟨w, fun e => hw.ne' ?_⟩
    rw [← e]
    exact congrArg x0 (funext fun a => by match a with | ⟨0, _⟩ => rfl | ⟨1, _⟩ => rfl)

end Cert.Pre_logits_in_range.Soft

end
-- ==== Proof.Agree.lean ====
/- The kernel's result and the reference's are one array: the softmax of every column of the logits, transposed. -/
module

public import proofs.«01_k».proof.Proof.KernelSum
public import proofs.«01_k».proof.Proof.RefValue
public import proofs.«01_k».proof.Proof.Range

@[expose] public section

set_option maxRecDepth 16384

noncomputable section

namespace Cert.Agree

open Idealize.ShloMosaic Idealize.ShloMosaic.TcCoe Idealize.ShloMosaic.ValueIdx
open Cert.KernelIdeal Cert.KernelIdeal.Gen Cert.KernelIdeal.Soft

variable (m : (ℓ : Loc nD τ sig) → Buf (Elt Ideal) ℓ)

/-- The logits as device `c` is launched with them. -/
abbrev logits (c : Dev nD) : FVec Ideal S100000x128 .f32 := m ((c.tc : Thread nD τ).loc main_arg0)

/-- Under the precondition, the kernel's array transposed is what the reference computes from the same logits. -/
theorem agree (c : Dev nD) {x1 : IVec Cert.Pre_logits_in_range.S128x512 32} {x2 x3 : IVec Cert.Pre_logits_in_range.S_ 32}
    (h : Cert.Pre_logits_in_range.fn (F := Ideal) (logits m c) x1 x2 x3 = fun _ => 1#1) :
    transpose S128x100000 [1, 0] (total m c) transposes_S100000x128_S128x100000_1_0
      = Cert.ReferenceIdeal.Read.val_main_v13 (F := Ideal) (logits m c) := by
  funext (i : S128x100000.Idx)
  obtain ⟨b, v, rfl⟩ : ∃ (b : Fin 128) (v : Fin 100000), i = ix2 b v := ⟨i 0, i 1, eq_ix2 i⟩
  have hle : ∀ w : Fin 100000, logits m c (ix2 w b) ≤ clampAt := fun w => Cert.Pre_logits_in_range.Soft.le_clamp h w b
  have htop : ∀ w : Fin 100000, logits m c (ix2 w b) ≠ ⊤ := fun w =>
    ((hle w).trans_lt (clampAt_eq ▸ EReal.coe_lt_top 87)).ne
  obtain ⟨w, hw⟩ := Cert.Pre_logits_in_range.Soft.exists_ne_bot h b
  obtain ⟨M, hM⟩ := Cert.ReferenceIdeal.Soft.rowMax_real (logits m c) b htop hw
  have hexp : ∀ w : Fin 100000, clampedExp (logit m c b w) = Ideal.exp (logits m c (ix2 w b)) := fun w =>
    congrArg Ideal.exp (min_eq_left (hle w))
  rw [transpose_apply [1, 0] (total m c) transposes_S100000x128_S128x100000_1_0 (ix2 b v) (ix2 v b) (fun a => match a with
      | ⟨0, _⟩ => rfl
      | ⟨1, _⟩ => rfl),
    total_value, Cert.ReferenceIdeal.Soft.result_apply, hM,
    Cert.Softmax.softmax_eq (fun w => logits m c (ix2 w b)) htop hw M v]
  simp only [hexp]

end Cert.Agree

end
-- ==== Proof.lean ====
/- The proof of the certificate's claims: the kernel as printed, its idealization and the reference each end with their
   arguments unchanged and every counter zero, and the idealization's result equals the reference's. -/
module

public import proofs.«01_k».proof.Defs
public import proofs.«01_k».proof.Proof.Printed
public import proofs.«01_k».proof.Proof.Agree

@[expose] public section

noncomputable section

namespace Cert.Proof

open Idealize.ShloMosaic Idealize.SL.Sem

/-- The reference ends with its arguments unchanged and, having no semaphore, every counter zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The idealized kernel and the reference end with equal results. -/
theorem equal : Cert.algebraic_KernelIdeal_ReferenceIdeal_pre_logits_in_range := by
  intro m ρ m' ρ' hpre hsame
  refine ⟨_, Cert.KernelIdeal.Soft.run_value m ρ, ?_⟩
  refine (θ_run Cert.ReferenceIdeal.defs _ _).mono (fun r h c => ⟨?_, (h c).2⟩) (Cert.ReferenceIdeal.Value.run m' ρ')
  rw [(h c).1, Cert.ReferenceIdeal.Read.val_main_v13_eq, (hsame c).1]
  exact (Cert.Agree.agree m c (hpre c)).symm

/-- Every claim of the certificate. -/
theorem claim : Cert.Claim :=
  ⟨Cert.Kernel.Gen.facts, Cert.KernelIdeal.Gen.facts, Cert.ReferenceIdeal.Gen.facts, Cert.Pre_logits_in_range.Gen.facts,
    fun m ρ _ => Cert.Kernel.Soft.frame m ρ, fun m ρ _ => Cert.KernelIdeal.Soft.frame m ρ,
    fun m ρ _ => Cert.KernelIdeal.Soft.frame m ρ, frame_reference, fun m ρ _ => frame_reference m ρ trivial, trivial, equal⟩

end Cert.Proof

end
